-- ==== Defs.lean ====
def Pre_Kernel [hPre_index_range : Cert.Pre_index_range.Facts] (m : (ℓ : Loc Cert.Kernel.nD Cert.Kernel.τ Cert.Kernel.sig) → Buf (Elt Bits) ℓ) : Prop :=
  ∀ c : Dev Cert.Kernel.nD,
    (Cert.Pre_index_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_index_range : Cert.Pre_index_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_index_range [hPre_index_range : Cert.Pre_index_range.Facts] (m : (ℓ : Loc Cert.Reference.nD Cert.Reference.τ Cert.Reference.sig) → Buf (Elt Bits) ℓ) : Prop :=
  ∀ c : Dev Cert.Reference.nD,
    (Cert.Pre_index_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_range [hPre_index_range : Cert.Pre_index_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_index_range : Cert.Pre_index_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_index_range [hReference : Cert.Reference.Facts] [hPre_index_range : Cert.Pre_index_range.Facts] : Prop :=
  ∀ (m : (ℓ : Loc Cert.Reference.nD Cert.Reference.τ Cert.Reference.sig) → Buf (Elt Bits) ℓ) (g : Dev Cert.Reference.nD → PrngReg), Pre_Reference_index_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_index_range [hReferenceIdeal : Cert.ReferenceIdeal.Facts] [hPre_index_range : Cert.Pre_index_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_index_range : Cert.Pre_index_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_index_range : Cert.Pre_index_range.Facts),
    quiescent_Kernel (hKernel := hKernel) (hPre_index_range := hPre_index_range)
    ∧ quiescent_KernelIdeal (hKernelIdeal := hKernelIdeal) (hPre_index_range := hPre_index_range)
    ∧ quiescent_Reference (hReference := hReference)
    ∧ quiescent_Reference_pre_index_range (hReference := hReference) (hPre_index_range := hPre_index_range)
    ∧ quiescent_ReferenceIdeal (hReferenceIdeal := hReferenceIdeal)
    ∧ quiescent_ReferenceIdeal_pre_index_range (hReferenceIdeal := hReferenceIdeal) (hPre_index_range := hPre_index_range)
    ∧ preserves_Kernel_KernelIdeal
    ∧ algebraic_KernelIdeal_ReferenceIdeal (hKernelIdeal := hKernelIdeal) (hReferenceIdeal := hReferenceIdeal) (hPre_index_range := hPre_index_range)
    ∧ bitexact_Kernel_Reference (hKernel := hKernel) (hReference := hReference) (hPre_index_range := hPre_index_range)
-- ==== Pre_index_range.lean ====
abbrev S16384x26 : Shape := ⟨2, ![16384, 26]⟩
abbrev S1000001 : Shape := ⟨1, ![1000001]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S1000001 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000000#32
  let main_v2 : IVec S16384x26 32 := broadcastInDim S16384x26 ![] bcast_S_S16384x26 main_c_0
  let main_v3 : IVec S16384x26 1 := cmpi .sle main_arg0 main_v2
  let main_v4 : IVec S16384x26 1 := andi main_v1 main_v3
  main_v4
-- ==== Kernel.lean ====
abbrev S16384x26 : Shape := ⟨2, ![16384, 26]⟩
abbrev S1000001 : Shape := ⟨1, ![1000001]⟩
abbrev S32x13312 : Shape := ⟨2, ![32, 13312]⟩
abbrev S13312 : Shape := ⟨1, ![13312]⟩
abbrev S_ : Shape := ⟨0, ![]⟩
abbrev S1x13312 : Shape := ⟨2, ![1, 13312]⟩

abbrev nBuf : Table → Nat
  | .hbm => 5
  | .local .scVector .vmem => 2
  | _ => 0

abbrev bufTy : (tb : Table) → Fin (nBuf tb) → BufTy
  | .hbm, ⟨0, _⟩ => ⟨S16384x26, .i32⟩
  | .hbm, ⟨1, _⟩ => ⟨S1000001, .f32⟩
  | .hbm, ⟨2, _⟩ => ⟨S32x13312, .i32⟩
  | .hbm, ⟨3, _⟩ => ⟨S32x13312, .f32⟩
  | .hbm, ⟨4, _⟩ => ⟨S16384x26, .f32⟩
  | .local .scVector .vmem, ⟨0, _⟩ => ⟨S13312, .i32⟩
  | .local .scVector .vmem, ⟨1, _⟩ => ⟨S13312, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x26 : Shape := ⟨2, ![16384, 26]⟩
abbrev S1000001 : Shape := ⟨1, ![1000001]⟩
abbrev S425984 : Shape := ⟨1, ![425984]⟩
abbrev S_ : Shape := ⟨0, ![]⟩
abbrev S425984x1 : Shape := ⟨2, ![425984, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000001, .f32⟩
  | .hbm, ⟨2, _⟩ => ⟨S425984, .i32⟩
  | .hbm, ⟨3, _⟩ => ⟨S_, .i32⟩
  | .hbm, ⟨4, _⟩ => ⟨S425984, .i32⟩
  | .hbm, ⟨5, _⟩ => ⟨S425984, .i1⟩
  | .hbm, ⟨6, _⟩ => ⟨S_, .i32⟩
  | .hbm, ⟨7, _⟩ => ⟨S425984, .i32⟩
  | .hbm, ⟨8, _⟩ => ⟨S425984, .i32⟩
  | .hbm, ⟨9, _⟩ => ⟨S425984, .i32⟩
  | .hbm, ⟨10, _⟩ => ⟨S425984x1, .i32⟩
  | .hbm, ⟨11, _⟩ => ⟨S1, .i32⟩
  | .hbm, ⟨12, _⟩ => ⟨S_, .i32⟩
  | .hbm, ⟨13, _⟩ => ⟨S425984x1, .i32⟩
  | .hbm, ⟨14, _⟩ => ⟨S425984x1, .i1⟩
  | .hbm, ⟨15, _⟩ => ⟨S1x1, .i32⟩
  | .hbm, ⟨16, _⟩ => ⟨S425984x1, .i32⟩
  | .hbm, ⟨17, _⟩ => ⟨S425984x1, .i1⟩
  | .hbm, ⟨18, _⟩ => ⟨S425984x1, .i1⟩
  | .hbm, ⟨19, _⟩ => ⟨S_, .i1⟩
  | .hbm, ⟨20, _⟩ => ⟨S425984, .i1⟩
  | .hbm, ⟨21, _⟩ => ⟨S425984, .f32⟩
  | .hbm, ⟨22, _⟩ => ⟨S_, .f32⟩
  | .hbm, ⟨23, _⟩ => ⟨S425984, .f32⟩
  | .hbm, ⟨24, _⟩ => ⟨S425984, .f32⟩
  | .hbm, ⟨25, _⟩ => ⟨S16384x26, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Entry.lean ====
/-
  The value all the claims are about, free of any program: the table's entry at a word (`entry`), and the reading of the
  certificate's precondition `index_range` (every index word is at least 0 and at most 1000000, as a signed word) as a
  bound on the words' natural values (`inRange_of_pre`).
-/
module

public import proofs.«01_k».proof.Defs
public import proofs.«01_k».proof.Proof.Gen.Pre_index_range
public import Idealize.ShloMosaic.Lib.StableHlo.Predicate

@[expose] public section

noncomputable section

namespace Cert.Proof

open Idealize.ShloMosaic

/-- The number of the table's entries. -/
abbrev tableLen : ℕ := 1000001

/-- The table's entry at the word `w`, read as a natural number. A word past the table wraps round: no claim reads one. -/
def entry {α : Type} (t : (⟨1, ![1000001]⟩ : Shape).Idx → α) (w : BitVec 32) : α :=
  t (Shape.Idx.ofFin ⟨w.toNat % tableLen, Nat.mod_lt _ (by decide)⟩)

/-- The table read at an index whose one coordinate is the word's value is the word's entry. -/
theorem entry_eq {α : Type} (t : (⟨1, ![1000001]⟩ : Shape).Idx → α) (w : BitVec 32) (hw : w.toNat < tableLen)
    (i : (⟨1, ![1000001]⟩ : Shape).Idx) (hi : (i 0).val = w.toNat) : t i = entry t w := by
  unfold entry
  refine congrArg t (funext fun a => ?_)
  obtain rfl : a = 0 := Subsingleton.elim _ _
  refine Fin.ext ?_
  rw [hi]
  exact (Nat.mod_eq_of_lt hw).symm

/-- Every index word names an entry of the table. -/
def InRange (x : (⟨2, ![16384, 26]⟩ : Shape).Idx → BitVec 32) : Prop := ∀ j, (x j).toNat < tableLen

/-- A word between 0 and 1000000 as a signed word is its own natural value, below 1000001. -/
theorem toNat_lt_of_bounds (v : BitVec 32)
    (e : IntOp.andi (IntOp.cmpi .sge v 0#32) (IntOp.cmpi .sle v 1000000#32) = 1#1) : v.toNat < tableLen := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  show v.toNat < 1000001
  omega

/-- The precondition's answer, all ones, bounds every index word. -/
theorem inRange_of_pre {F : FTy → Type} [FloatOps F] (x : (⟨2, ![16384, 26]⟩ : Shape).Idx → BitVec 32)
    (t : (⟨1, ![1000001]⟩ : Shape).Idx → F .f32)
    (h : Cert.Pre_index_range.fn (F := F) x t = fun _ => 1#1) : InRange x := by
  intro j
  have e := congrFun h j
  simp only [Cert.Pre_index_range.fn, andi, cmpi, broadcastInDim, constantI] at e
  exact toNat_lt_of_bounds _ e

end Cert.Proof

end
-- ==== Proof.RefValue.lean ====
/-
  The reference's value: the term its host operations compute (flatten the index array, lift negative words by the table's
  length, gather, and put a not-a-number where a word is outside the table, then give the result the index array's shape)
  is, at each place, the table's entry at that place's index word, when every index word names an entry (`refTerm_eq`).
  Stated over literal shapes and any table of floats, so that both reference programs read it.
-/
module

public import proofs.«01_k».proof.Proof.Entry
public import Idealize.ShloMosaic.Lib.StableHlo.Predicate
public import Idealize.ShloMosaic.Lib.Pipeline.Value

@[expose] public section

noncomputable section

namespace Cert.Proof

open Idealize.ShloMosaic

/-- The flat index array's shape. -/
abbrev SFlat : Shape := ⟨1, ![425984]⟩
/-- The flat index array as a column. -/
abbrev SCol : Shape := ⟨2, ![425984, 1]⟩

/-- The shape of a scalar. -/
abbrev SNil : Shape := ⟨0, ![]⟩

/-- A word that names a table entry is not negative as a signed word. -/
theorem not_slt_zero (w : BitVec 32) (hw : w.toNat < tableLen) : IntOp.cmpi .slt w 0#32 = 0#1 := by
  have h : w.toNat < 1000001 := hw
  have : w.slt 0#32 = false := by
    simp only [BitVec.slt_eq_decide, decide_eq_false_iff_not, BitVec.toInt_eq_toNat_cond, BitVec.toNat_ofNat,
      Nat.reducePow, Nat.reduceMod]
    omega
  simp only [IntOp.cmpi, this]
  rfl

/-- A word that names a table entry passes both of the reference's bound tests. -/
theorem bounds_of_lt (w : BitVec 32) (hw : w.toNat < tableLen) :
    IntOp.andi (IntOp.cmpi .sge w 0#32) (IntOp.cmpi .sle w 1000000#32) = 1#1 := by
  have h : w.toNat < 1000001 := hw
  have h1 : (0#32).sle w = true := by
    simp only [BitVec.sle_eq_decide, decide_eq_true_eq, BitVec.toInt_eq_toNat_cond, BitVec.toNat_ofNat,
      Nat.reducePow, Nat.reduceMod]
    omega
  have h2 : w.sle 1000000#32 = true := by
    simp only [BitVec.sle_eq_decide, decide_eq_true_eq, BitVec.toInt_eq_toNat_cond, BitVec.toNat_ofNat,
      Nat.reducePow, Nat.reduceMod]
    omega
  simp only [IntOp.cmpi, h1, h2]
  decide

/-- A conjunction of bits that are all one, started from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize List.filter _ _ = l
  induction l with
  | nil => rfl
  | cons a l ih =>
    rw [List.foldl_cons, hx]
    exact ih

/-- The reference's index column: the flattened words, each negative one lifted by the table's length. -/
abbrev liftCol (x : (⟨2, ![16384, 26]⟩ : Shape).Idx → BitVec 32)
    (hf : (⟨2, ![16384, 26]⟩ : Shape).ShapeCasts SFlat) (hz : SNil.BroadcastsInDim SFlat ![])
    (hc : SFlat.BroadcastsInDim SCol ![0]) : SCol.Idx → BitVec 32 :=
  broadcastInDim SCol ![0] hc
    (select (cmpi .slt (shapeCast SFlat x hf) (broadcastInDim SFlat ![] hz (constantI SNil 32 0#32)))
      (addi (shapeCast SFlat x hf) (broadcastInDim SFlat ![] hz (constantI SNil 32 1000001#32))) (shapeCast SFlat x hf))

/-- When every word names an entry, the lift changes none: each row of the column is the flattened array's word. -/
theorem liftCol_eq (x : (⟨2, ![16384, 26]⟩ : Shape).Idx → BitVec 32) (hx : InRange x)
    (hf : (⟨2, ![16384, 26]⟩ : Shape).ShapeCasts SFlat) (hz : SNil.BroadcastsInDim SFlat ![])
    (hc : SFlat.BroadcastsInDim SCol ![0]) (i : SCol.Idx) :
    liftCol x hf hz hc i = shapeCast SFlat x hf (Shape.Idx.ofFin (i 0)) := by
  have e : (select (cmpi .slt (shapeCast SFlat x hf) (broadcastInDim SFlat ![] hz (constantI SNil 32 0#32)))
      (addi (shapeCast SFlat x hf) (broadcastInDim SFlat ![] hz (constantI SNil 32 1000001#32))) (shapeCast SFlat x hf))
      = shapeCast SFlat x hf := by
    funext k
    have hk : IntOp.cmpi .slt (shapeCast SFlat x hf k) 0#32 = 0#1 := not_slt_zero _ (hx _)
    simp only [select, cmpi, broadcastInDim, constantI, hk]
    rfl
  unfold liftCol
  rw [e]
  refine congrArg (shapeCast SFlat x hf) (funext fun a => ?_)
  obtain rfl : a = 0 := Subsingleton.elim _ _
  rfl

/-- The reference's gather at a flat place, before the shape is given back: the table's entry at that place's word. -/
theorem gather_liftCol {α : Type} (d : GatherDims ⟨1, ![1000001]⟩ SCol SFlat) (hcoll : d.collapsedSliceDims = [0])
    (hob : d.operandBatchingDims = []) (hsim : d.startIndexMap = [0]) (hivd : d.indexVectorDim = 1)
    (t : (⟨1, ![1000001]⟩ : Shape).Idx → α) (x : (⟨2, ![16384, 26]⟩ : Shape).Idx → BitVec 32) (hx : InRange x)
    (hf : (⟨2, ![16384, 26]⟩ : Shape).ShapeCasts SFlat) (hz : SNil.BroadcastsInDim SFlat ![])
    (hc : SFlat.BroadcastsInDim SCol ![0]) (k : SFlat.Idx) :
    Host.gather d t (liftCol x hf hz hc) k = entry t (shapeCast SFlat x hf k) := by
  obtain ⟨p, rfl⟩ : ∃ p : Fin 425984, k = Shape.Idx.ofFin p := ⟨k 0, by
    funext a
    obtain rfl : a = 0 := Subsingleton.elim _ _
    rfl⟩
  have hw : (shapeCast SFlat x hf (Shape.Idx.ofFin p)).toNat < tableLen := hx _
  refine (StableHlo.Predicate.gather_take d hcoll hob hsim hivd t (liftCol x hf hz hc) p (by decide)).trans
    (entry_eq t _ hw _ ?_)
  have e : liftCol x hf hz hc (StableHlo.Predicate.ixP p) = shapeCast SFlat x hf (Shape.Idx.ofFin p) :=
    liftCol_eq x hx hf hz hc _
  show min (liftCol x hf hz hc (StableHlo.Predicate.ixP p)).toInt.toNat (1000001 - 1) = _
  rw [e]
  generalize shapeCast SFlat x hf (Shape.Idx.ofFin p) = w at hw ⊢
  have h : w.toNat < 1000001 := hw
  have h2 : w.toInt = (w.toNat : ℤ) := by
    rw [BitVec.toInt_eq_toNat_cond]
    simp only [Nat.reducePow]
    omega
  rw [h2, Int.toNat_natCast]
  omega

/-- The reference's whole term is, at each place, the table's entry at that place's index word. -/
theorem refTerm_eq {α : Type} (d : GatherDims ⟨1, ![1000001]⟩ SCol SFlat) (hcoll : d.collapsedSliceDims = [0])
    (hob : d.operandBatchingDims = []) (hsim : d.startIndexMap = [0]) (hivd : d.indexVectorDim = 1)
    (t : (⟨1, ![1000001]⟩ : Shape).Idx → α) (x : (⟨2, ![16384, 26]⟩ : Shape).Idx → BitVec 32) (hx : InRange x)
    (hf : (⟨2, ![16384, 26]⟩ : Shape).ShapeCasts SFlat) (hz : SNil.BroadcastsInDim SFlat ![])
    (hc : SFlat.BroadcastsInDim SCol ![0]) (hzc : SNil.BroadcastsInDim SCol ![])
    (h11 : (⟨2, ![1, 1]⟩ : Shape).BroadcastsInDim SCol ![0, 1]) (h1 : (⟨1, ![1]⟩ : Shape).BroadcastsInDim ⟨2, ![1, 1]⟩ ![1])
    (hr : SCol.ReducesTo [1] SFlat) (hn : 0 < SNil.numel) (nan : SFlat.Idx → α)
    (hb : SFlat.ShapeCasts ⟨2, ![16384, 26]⟩) :
    shapeCast ⟨2, ![16384, 26]⟩
      (select (Host.reduce IntOp.andi
          (andi (cmpi .sge (liftCol x hf hz hc) (broadcastInDim SCol ![] hzc (constantI SNil 32 0#32)))
            (cmpi .sle (liftCol x hf hz hc)
              (broadcastInDim SCol ![0, 1] h11 (broadcastInDim ⟨2, ![1, 1]⟩ ![1] h1 (constantI ⟨1, ![1]⟩ 32 1000000#32)))))
          (constantI SNil 1 1#1) hr hn)
        (Host.gather d t (liftCol x hf hz hc)) nan) hb
      = fun j => entry t (x j) := by
  have hs : (select (Host.reduce IntOp.andi
          (andi (cmpi .sge (liftCol x hf hz hc) (broadcastInDim SCol ![] hzc (constantI SNil 32 0#32)))
            (cmpi .sle (liftCol x hf hz hc)
              (broadcastInDim SCol ![0, 1] h11 (broadcastInDim ⟨2, ![1, 1]⟩ ![1] h1 (constantI ⟨1, ![1]⟩ 32 1000000#32)))))
          (constantI SNil 1 1#1) hr hn)
        (Host.gather d t (liftCol x hf hz hc)) nan) = fun k => entry t (shapeCast SFlat x hf k) := by
    funext k
    have hm := reduce_andi_ones
      (andi (cmpi .sge (liftCol x hf hz hc) (broadcastInDim SCol ![] hzc (constantI SNil 32 0#32)))
        (cmpi .sle (liftCol x hf hz hc)
          (broadcastInDim SCol ![0, 1] h11 (broadcastInDim ⟨2, ![1, 1]⟩ ![1] h1 (constantI ⟨1, ![1]⟩ 32 1000000#32)))))
      (constantI SNil 1 1#1) hr hn
      (fun i => bounds_of_lt (liftCol x hf hz hc i) (by rw [liftCol_eq x hx]; exact hx _)) (fun _ => rfl) k
    rw [select, hm, gather_liftCol d hcoll hob hsim hivd t x hx]
    rfl
  rw [hs]
  funext j
  exact congrArg (entry t) (congrFun (shapeCast_shapeCast x hf hb) j)

end Cert.Proof

end
-- ==== Proof.KernelIdeal.Task.lean ====
/-
  One task of the idealized kernel (the kernel's own text, read over the extended reals): worker `2 s + c` (vector subcore `s` of SparseCore `c`) copies its row of the index array into
  its scratch, gathers the table's entries the row names, and copies them to its row of the output. Proved here: from the
  worker's index row, its share of the table and its output row, the task ends with the output row holding, at each place,
  the table's entry at that place's index word (`task`).
-/
module

public import proofs.«01_k».proof.Defs
public import proofs.«01_k».proof.Proof.Entry
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's body table. -/
abbrev ΛP : Labels := Pipeline.Sig Λ₀ (Fin 0) fun p => (pcfgs (F := F) p).Adm
/-- The program's one SparseCore call. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen vector subcores of each SparseCore. -/
theorem nSub_zero : (K (F := F)).nSub 0 = 16 := rfl
/-- The call runs on two SparseCores. -/
theorem nCore_zero : (K (F := F)).nCore 0 = 2 := rfl

/-- What the launch asks of the four handshake semaphores. -/
theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

/-- Where the handshakes' rounds sit in the ghost state. -/
abbrev EH : Emb UH (MT nD τ sig (HIx 1) (Elt F) ℕ UU ℕ) := embL

/-! ## The arrays -/

variable (m : (ℓ : Loc nD τ sig) → Buf (Elt F) ℓ) (ρ : Dev nD → PrngReg)

/-- The index argument, the table, the indices as 32 rows, the gathered rows, the result. -/
abbrev xLoc (d : Dev nD) : Loc nD τ sig := (SparseCore.T d).loc main_arg0
abbrev wLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index rows, the table and the output as a vector subcore names them, whole; its list scratch and its gathered words. -/
abbrev iV : Memref sig .scVector .hbm S32x13312 .i32 := Memref.whole main_v0_scv
abbrev wV : Memref sig .scVector .hbm S1000001 .f32 := Memref.whole main_arg1_scv
abbrev oV : Memref sig .scVector .hbm S32x13312 .f32 := Memref.whole main_v1_scv
abbrev sV : Memref sig .scVector .vmem S13312 .i32 := Memref.whole cc0_scratch0
abbrev gV : Memref sig .scVector .vmem S13312 .f32 := Memref.whole cc0_scratch1

/-- The 32 rows of the index array and of the output, one per worker. -/
theorem rowDiv : 32 ∣ S32x13312.size 0 := ⟨1, rfl⟩
abbrev row (w : Fin 32) : Rect S32x13312 := Rect.part (s := S32x13312) (a₀ := 0) rowDiv w
abbrev iRowSet (w : Fin 32) : Finset S32x13312.Idx := ((iV).view.slice (row w)).set
abbrev oRowSet (w : Fin 32) : Finset S32x13312.Idx := ((oV).view.slice (row w)).set

/-- Worker `w`'s share of the table: one of 32 pieces of the full share. -/
abbrev wShare (w : Fin 32) : PosShare TreeShare := pieceOf fullShare 32 (by decide) w

/-- The indices as 32 rows: the argument in row-major order. -/
def I1 (d : Dev nD) : Buf (Elt F) (iLoc d) :=
  (shapeCast S32x13312 (m (xLoc d) : S16384x26.Idx → Elt F .i32) shapeCasts_S16384x26_S32x13312 : S32x13312.Idx → Elt F .i32)

/-- The gathered rows: at each place the table's entry at that place's index word. -/
def O1 (d : Dev nD) : Buf (Elt F) (oLoc d) :=
  (fun j => entry (m (wLoc d) : S1000001.Idx → Elt F .f32) ((I1 m d : S32x13312.Idx → Elt F .i32) j) : S32x13312.Idx → Elt F .f32)

/-- What the proof asks of the launch memory: every index word names an entry of the table. -/
def PreOK : Prop := ∀ d : Dev nD, InRange (m (xLoc d))

/-- Then every word of the 32 rows does. -/
theorem I1_lt (hpre : PreOK m) (d : Dev nD) (j : S32x13312.Idx) : ((I1 m d : S32x13312.Idx → Elt F .i32) j).toNat < tableLen :=
  hpre d _

variable [FloatOps F]

/-! ## What a worker is handed, and what it hands back -/

abbrev iRowPts (d : Dev nD) (w : Fin 32) : sProp 𝕄 := iLoc d ↦[iRowSet w]{fullShare} I1 m d
abbrev wShPts (d : Dev nD) (w : Fin 32) : sProp 𝕄 := wLoc d ↦{wShare w} m (wLoc d)
abbrev oRowPts (d : Dev nD) (w : Fin 32) (f : Buf (Elt F) (oLoc d)) : sProp 𝕄 := oLoc d ↦[oRowSet w]{fullShare} f

/-! ## The worker's rows as the task addresses them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
/-- The grid's first axis is the two SparseCores. -/
theorem bound_zero : grid0.bound 0 = 2 := rfl
omit [FloatOps F] in
/-- The grid's second axis is the sixteen vector subcores. -/
theorem bound_one : grid0.bound 1 = 16 := rfl

/-- Worker `2 s + c`. -/
def wid (c : Fin 2) (s : Fin 16) : Fin 32 := ⟨2 * s.val + c.val, by omega⟩
abbrev wL (L : grid0.Coords) : Fin 32 := wid (Fin.cast bound_zero (L 0)) (Fin.cast bound_one (L 1))

/-- The row as the task's copies name it, in the index array and in the output, and the whole table. -/
abbrev rowK (L : grid0.Coords) : Rect S32x13312 := Rect.unit (s := S32x13312) (k0_off1 L) S1x13312.size (k0_off1_inb L)
abbrev iRowK (L : grid0.Coords) : Memref sig .scVector .hbm S13312 .i32 := ((iV).slice (rowK L) (fun _ => rfl)).squeeze S13312 squeezes_S1x13312_S13312
abbrev oRowK (L : grid0.Coords) : Memref sig .scVector .hbm S13312 .f32 := ((oV).slice (rowK L) (fun _ => rfl)).squeeze S13312 squeezes_S1x13312_S13312
abbrev wAllK : Memref sig .scVector .hbm S1000001 .f32 := (wV).slice (Rect.unit (s := S1000001) ![0] S1000001.size inb_S1000001_S1000001_0) (fun _ => rfl)

omit [FloatOps F] in
/-- It is the worker's row. -/
theorem rowK_eq : rowK L = row (wL L) := by
  unfold rowK row Rect.part Rect.block
  congr 1 <;> funext a
  · rw [k0_off1_eq]
    match a with
    | 0 => simp [Shape.partIx, Shape.partSize, wid]; rfl
    | 1 => simp [Shape.partIx, Shape.partSize]
  · match a with
    | 0 => simp [Shape.partSize]
    | 1 => simp [Shape.partSize]

omit [FloatOps F] in
/-- The elements of the index array a task reads are those of its worker's row. -/
theorem set_iRowK : (iRowK L).view.set = iRowSet (wL L) := by
  show (((iV).view.slice (rowK L)).reshape S13312 squeezes_S1x13312_S13312.numel_eq).set = ((iV).view.slice (row (wL L))).set
  rw [View.set_reshape]
  exact rowK_eq L ▸ rfl
omit [FloatOps F] in
/-- The elements of the output a task writes are those of its worker's row. -/
theorem set_oRowK : (oRowK L).view.set = oRowSet (wL L) := by
  show (((oV).view.slice (rowK L)).reshape S13312 squeezes_S1x13312_S13312.numel_eq).set = ((oV).view.slice (row (wL L))).set
  rw [View.set_reshape]
  exact rowK_eq L ▸ rfl

omit [FloatOps F] in
/-- A task's view of its index row, held whole, is the row held at the array's own location. -/
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
/-- A task's view of its output row, held whole, is the row held at the array's own location. -/
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
/-- A task's view of the table, held at a share, is the table held at that share at its own location. -/
theorem pts_wV (q : PosShare TreeShare) (f : Buf (Elt F) (wLoc d)) :
    ((wV).view.loc (V d (cV L) (jV L)) ↦{q} f : sProp 𝕄) = wLoc d ↦{q} f := rfl
omit [FloatOps F] in
/-- A task's index scratch, held as a view, is the scratch held at its own location. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
/-- A task's scratch for the gathered words, held as a view, is the scratch held at its own location. -/
theorem pts_gV (f : Buf (Elt F) ((V d (cV L) (jV L)).loc cc0_scratch1)) :
    ((gV).view.loc (V d (cV L) (jV L)) ↦{fullShare} f : sProp 𝕄) = (V d (cV L) (jV L)).loc cc0_scratch1 ↦{fullShare} f := rfl

/-! ## The subcore's own semaphores and scratch -/

/-- The gather's semaphore, the first copy's, the last copy's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
/-- The three are among the subcore's own. -/
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The values the task moves -/

omit [FloatOps F] in
/-- The index row read through the task's own name for it. -/
theorem read_iRowK (f : Buf (Elt F) (iLoc d)) (j : S13312.Idx) :
    (iRowK L).view.read (Elt F) f j = f ((iRowK L).view.emb j) :=
  (View.read_apply _ _).trans (cast_eq _ _)

omit [FloatOps F] in
/-- The table read through the task's own name for it is the table. -/
theorem read_wAllK (f : Buf (Elt F) (wLoc d)) (i : S1000001.Idx) : (wAllK).view.read (Elt F) f i = f i := by
  refine ((View.read_apply _ _).trans (cast_eq _ _)).trans (congrArg f (funext fun (a : Fin 1) => Fin.ext ?_))
  show (![0] : Fin 1 → ℕ) a + 1 * (i a).val = (i a).val
  obtain rfl : a = 0 := Subsingleton.elim _ _
  simp

/-- The offsets the gather reads are in range: the scratch holds the worker's index row, each word below the table's
    length. -/
theorem offs_lt (hpre : PreOK m) (fs : Buf (Elt F) ((V d (cV L) (jV L)).loc cc0_scratch0)) (pay : S13312.Idx → Elt F .i32)
    (hpay : pay = (iRowK L).view.read (Elt F) (I1 m d)) :
    ∀ x, ((sV).view.read (Elt F) (View.write (Elt F) (sV).view fs pay Finset.univ) x).toNat < S1000001.size gathers_S1000001_S13312.axis := by
  subst hpay; intro x
  rw [View.write_whole_univ]
  simp only [Memref.view_whole, View.read_whole]
  rw [read_iRowK]
  exact I1_lt m hpre d _

omit [FloatOps F] in
/-- The gathered words: at place `j` of the worker's row, the table's entry at the row's index word there. -/
theorem gathered (hpre : PreOK m) (hg : S1000001.Gathers 0 S13312) (hn : S13312.numel = S13312.size hg.axis')
    (idx : S13312.Idx → Elt F .i32) (hidx : idx = (iRowK L).view.read (Elt F) (I1 m d))
    (hin : ∀ x, (idx x).toNat < S1000001.size hg.axis) (j : S13312.Idx) :
    SparseCore.gatherPayload hg ((wAllK).view.read (Elt F) (m (wLoc d))) (SparseCore.rows idx hn hin) j
      = entry (m (wLoc d) : S1000001.Idx → Elt F .f32) ((I1 m d : S32x13312.Idx → Elt F .i32) ((iRowK L).view.emb j)) := by
  have hj : S13312.rowMajor.symm ((j hg.axis').cast hn.symm) = j := by
    rw [Equiv.symm_apply_eq]
    exact Fin.ext (Shape.rowMajor_val_one j).symm
  show (wAllK).view.read (Elt F) (m (wLoc d)) (hg.idx (SparseCore.rows idx hn hin) j) = _
  rw [read_wAllK]
  refine entry_eq _ _ (I1_lt m hpre d _) _ ?_
  have e := congrArg Fin.val (Shape.Gathers.idx_axis hg (SparseCore.rows idx hn hin) j)
  refine Eq.trans e ?_
  show (idx (S13312.rowMajor.symm ((j hg.axis').cast hn.symm))).toNat = _
  rw [hj, hidx, read_iRowK]

omit [FloatOps F] in
/-- The output row written with them holds what `O1` holds there. -/
theorem written (f : Buf (Elt F) (oLoc d)) (w : S13312.Idx → Elt F .f32)
    (hw : ∀ j, w j = entry (m (wLoc d) : S1000001.Idx → Elt F .f32) ((I1 m d : S32x13312.Idx → Elt F .i32) ((iRowK L).view.emb j))) :
    ∀ i ∈ (oRowK L).view.set, (oRowK L).view.writes (Elt F) f [⟨Rect.whole S13312, w⟩] i = O1 m d i := by
  intro i hi
  obtain ⟨j, -, rfl⟩ := Finset.mem_map.mp hi
  have e : (oRowK L).view.read (Elt F) ((oRowK L).view.writes (Elt F) f [⟨Rect.whole S13312, w⟩]) j = w j :=
    congrFun (View.read_writes_whole _ _ _) j
  rw [(View.read_apply _ _).trans (cast_eq _ _), hw] at e
  exact e

omit [FloatOps F] in
/-- So the row, written with them, is the output row at `O1`. -/
theorem pts_written (f : Buf (Elt F) (oLoc d)) (w : S13312.Idx → Elt F .f32)
    (hw : ∀ j, w j = entry (m (wLoc d) : S1000001.Idx → Elt F .f32) ((I1 m d : S32x13312.Idx → Elt F .i32) ((iRowK L).view.emb j))) :
    ((oRowK L).view.loc (V d (cV L) (jV L)) ↦[(oRowK L).view.set]{fullShare} (oRowK L).view.writes (Elt F) f [⟨Rect.whole S13312, w⟩] : sProp 𝕄)
      = oLoc d ↦[oRowSet (wL L)]{fullShare} O1 m d := by
  refine Eq.trans ?_ (pts_oRowK (F := F) d L (O1 m d))
  exact pointsTo_congr (ℓ := (oRowK L).view.loc (V d (cV L) (jV L))) (written m d L f w hw)

omit [FloatOps F] in
/-- What the write-out carries is the gathered words: the buffer read back after the gather wrote it, the list read back
    after the index fetch wrote it. -/
theorem payload (hpre : PreOK m) (fs : Buf (Elt F) ((V d (cV L) (jV L)).loc cc0_scratch0)) (fg : Buf (Elt F) ((V d (cV L) (jV L)).loc cc0_scratch1))
    (hg : S1000001.Gathers 0 S13312) (hn : S13312.numel = S13312.size hg.axis')
    (hin : ∀ x, ((sV).view.read (Elt F) (View.write (Elt F) (sV).view fs ((iRowK L).view.read (Elt F) (I1 m d)) Finset.univ) x).toNat < S1000001.size hg.axis)
    (j : S13312.Idx) :
    (gV).view.read (Elt F) ((gV).view.write (Elt F) fg (SparseCore.gatherPayload hg ((wAllK).view.read (Elt F) (m (wLoc d)))
        (SparseCore.rows ((sV).view.read (Elt F) (View.write (Elt F) (sV).view fs ((iRowK L).view.read (Elt F) (I1 m d)) Finset.univ)) hn hin)) Finset.univ) j
      = entry (m (wLoc d) : S1000001.Idx → Elt F .f32) ((I1 m d : S32x13312.Idx → Elt F .i32) ((iRowK L).view.emb j)) := by
  rw [View.read_write_univ]
  exact gathered m d L hpre hg hn _ (View.read_write_univ _ _) hin j

set_option maxHeartbeats 4000000 in
/-- The task: the index fetch and its wait, the gather and its wait, the write-out and its wait. -/
theorem task (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (wL L) ∗ wShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L wV (Memref.isWhole_whole _) iV (Memref.isWhole_whole _) oV (Memref.isWhole_whole _)
            sV (Memref.isWhole_whole _) gV (Memref.isWhole_whole _) cc0_scratch2 cc0_scoped0 cc0_scoped1)
          fun _ => iprop((iRowPts m d (wL L) ∗ wShPts m d (wL L) ∗ oRowPts d (wL L) (O1 m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fs, Hs⟩, ⟨%fg, Hg⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hw' := (Entails.of_eq (pts_wV (F := F) d L _ _).symm) $$ Hw
  ihave Hs' := (Entails.of_eq (pts_sV (F := F) d L _).symm) $$ Hs
  ihave Hg' := (Entails.of_eq (pts_gV (F := F) d L _).symm) $$ Hg
  sl_exec
  -- the gather's issue: a share of the table, the gathered words' buffer, the list's buffer, the semaphore at zero
  ihave Hws := (pointsTo_split_subset (q := wShare (wL L)) (f := m (wLoc d)) (S := Finset.univ) (Finset.subset_univ (wAllK).view.set)).1 $$ Hw'
  icases Hws with ⟨Hws, Hwr⟩
  have hgs : (gV).view.set = Finset.univ := View.set_whole _
  have hss : (sV).view.set = Finset.univ := View.set_whole _
  ihave Hg'' := (Entails.of_eq (show ((gV).view.loc (V d (cV L) (jV L)) ↦{fullShare} fg : sProp 𝕄)
      = (gV).view.loc (V d (cV L) (jV L)) ↦[(gV).view.set]{fullShare} fg by rw [hgs])) $$ Hg'
  ihave Hs'' := (Entails.of_eq (show ((sV).view.loc (V d (cV L) (jV L)) ↦{fullShare} View.write (Elt F) (sV).view fs (task.sl.dma0 m d L) Finset.univ : sProp 𝕄)
      = (sV).view.loc (V d (cV L) (jV L)) ↦[(sV).view.set]{fullShare} View.write (Elt F) (sV).view fs (task.sl.dma0 m d L) Finset.univ
      by rw [hss])) $$ Hs'
  have hN : ∀ h : S1000001.Gathers 0 S13312, ∑ j, ((gV).slice (S13312.rowRect h.axis' j) (S13312.stride_rowRect h.axis' j)).view.dmaCredit
      = (gV).view.dmaCredit := fun h => SparseCore.sum_rowCredit_eq_dmaCredit gV h.axis' fun _ => rfl
  iapply (SparseCore.wp_indirectGatherLocal countersEmb 𝒱₀ (V d (cV L) (jV L)) none (hg := gathers_S1000001_S13312) (default : HIx 1)
      (gV).view.dmaCredit (hN _) (by decide) (offs_lt m d L hpre fs _ rfl)) $$ [Hws Hg'' Hs'' HsemG]
  · isplitl [Hws]; · iexact Hws
    isplitl [Hg'']; · iexact Hg''
    isplitl [Hs'']; · iexact Hs''
    iexact HsemG
  iintro Hfl
  sl_exec
  -- its wait: the buffer holds the gathered words, the share of the table and the list come back
  iapply (Transfers.wp_waitLocalO countersEmb 𝒱₀ (V d (cV L) (jV L)) none (default : HIx 1) (rfl : (gV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hg', Hws, Hs'⟩, HsemG, HO⟩
  ihave Hw' := (pointsTo_split_subset (q := wShare (wL L)) (f := m (wLoc d)) (S := Finset.univ) (Finset.subset_univ (wAllK).view.set)).2 $$ [Hws Hwr]; · isplitl [Hws] <;> iassumption
  ihave Hg3 := (Entails.of_eq (show ((gV).view.loc (V d (cV L) (jV L)) ↦[(gV).view.set]{fullShare} _ : sProp 𝕄)
      = (gV).view.loc (V d (cV L) (jV L)) ↦{fullShare} _ by rw [hgs])) $$ Hg'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hw' Ho']
  · isplitl [Hi']; · iapply (Entails.of_eq (pts_iRowK (F := F) d L _)); iexact Hi'
    isplitl [Hw']; · iexact Hw'
    iapply (Entails.of_eq (pts_written m d L (m (oLoc d)) (task.sl.dma0_1 m d L hpre fs fg) (fun j => by
      unfold task.sl.dma0_1
      exact payload m d L hpre fs fg gathers_S1000001_S13312 _ _ j)))
    iexact Ho'
  isplitl [Hs3 Hg3 Hbufs]
  · isplitl [Hs3]; · iexists _; iexact Hs3
    isplitl [Hg3]; · iexists _; iexact Hg3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelIdeal.Launch.lean ====
/-
  The whole idealized program: the host lays the indices out as 32 rows, the SparseCore call runs the 32 workers, the host gives the
  gathered rows the argument's shape. Proved here (`run_main`): when every index word names an entry of the table, every
  weakly fair execution ends, with the result holding at each place the table's entry at that place's index word, both
  arguments unchanged and every semaphore's counter at zero.
-/
module

public import proofs.«01_k».proof.Proof.KernelIdeal.Task
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the call's handshakes carry -/

/-- What worker `w` is handed: its index row, its share of the table, its output row as launched. -/
abbrev handed (d : Dev nD) (w : Fin 32) : sProp 𝕄 := iprop(iRowPts m d w ∗ wShPts m d w ∗ oRowPts d w (m (oLoc d)))
/-- What it hands back: the same, the output row at the table's entries. -/
abbrev handedBack (d : Dev nD) (w : Fin 32) : sProp 𝕄 := iprop(iRowPts m d w ∗ wShPts m d w ∗ oRowPts d w (O1 m d))

/-- The worker at SparseCore `c` and subcore `i` of the call's grid. -/
abbrev wAt (c : Fin ((K (F := F)).nCore 0)) (i : Fin ((K (F := F)).nSub 0)) : Fin 32 := wid (Fin.cast nCore_zero c) (Fin.cast nSub_zero i)

/-- Each SparseCore takes what its sixteen workers are handed, and brings back what they hand back. -/
def P : (K (F := F)).Pay (nD := nD) (Val := Elt F) (Name := ℕ) (U := UU) where
  st := fun q d c => match q with | 0 => bigSep Finset.univ fun i : Fin ((K (F := F)).nSub 0) => handed m d (wAt c i)
  dn := fun q d c => match q with | 0 => bigSep Finset.univ fun i : Fin ((K (F := F)).nSub 0) => handedBack m d (wAt c i)
  go := fun q d c i => match q with | 0 => handed m d (wAt c i)
  td := fun q d c i => match q with | 0 => handedBack m d (wAt c i)
  x := fun _ _ => iprop(emp)

/-- The call's offers and answers mention no invariant, so they may be kept in one. -/
instance P_storable : (P (F := F) m).IsStorable where
  st q d c := match q with
    | 0 => (inferInstance : BI.Storable (upEmb : UEmb _ 𝕄) (bigSep Finset.univ fun i : Fin ((K (F := F)).nSub 0) => handed m d (wAt c i)))
  dn q d c := match q with
    | 0 => (inferInstance : BI.Storable (upEmb : UEmb _ 𝕄) (bigSep Finset.univ fun i : Fin ((K (F := F)).nSub 0) => handedBack m d (wAt c i)))
  go q d c i := match q with
    | 0 => (inferInstance : BI.Storable (upEmb : UEmb _ 𝕄) (handed m d (wAt c i)))
  td q d c i := match q with
    | 0 => (inferInstance : BI.Storable (upEmb : UEmb _ 𝕄) (handedBack m d (wAt c i)))

/-! ## The obligation of a tile, and the split of a SparseCore's share -/

/-- The grid point of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body the call's table names for a vector subcore is the task of that subcore's grid place. -/
theorem defs₀_vector (c : Fin τ.nSC) (s : Fin τ.nSub) :
    defs₀ (F := F) (.scVector c s) 0 ()
      = SparseCore.onTile hcore0 hsub0 (fun c s => cc0__gather_kernel (coordsV c s)
          wV (Memref.isWhole_whole _) iV (Memref.isWhole_whole _) oV (Memref.isWhole_whole _)
          sV (Memref.isWhole_whole _) gV (Memref.isWhole_whole _) cc0_scratch2 cc0_scoped0 cc0_scoped1) ⟨⟩ c s := rfl

omit [FloatOps F] in
/-- A wait the task records is one of the call's. -/
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the grid runs its task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m d (coordsV ⟨_, hci.1⟩ ⟨_, hci.2⟩) hF hpre O W hO).trans (wp_mono frame _ _ fun _ => waits_widen)

/-- A SparseCore's share is its workers' at once. -/
theorem vecSplit : (K (F := F)).VecSplit' (P m) 0 := by
  intro d c
  show (bigSep Finset.univ fun i : Fin ((K (F := F)).nSub 0) => handed m d (wAt c i)) ⊢ |={Set.univ}=> iprop(
      (bigSep Finset.univ fun i : Fin ((K (F := F)).nSub 0) => handed m d (wAt c i))
      ∗ ((bigSep Finset.univ fun i : Fin ((K (F := F)).nSub 0) => handedBack m d (wAt c i))
          -∗ bigSep Finset.univ fun i : Fin ((K (F := F)).nSub 0) => handedBack m d (wAt c i)))
  iintro H; imodintro
  isplitl [H]; · iexact H
  iintro H; iexact H

/-! ## The arrays whole, and by worker -/

omit [FloatOps F] in
/-- The workers are numbered once each by SparseCore and subcore. -/
theorem bigSep_workers (Φ : Fin 32 → sProp 𝕄) :
    (bigSep Finset.univ fun c : Fin ((K (F := F)).nCore 0) => bigSep Finset.univ fun i : Fin ((K (F := F)).nSub 0) => Φ (wAt c i))
      = bigSep Finset.univ Φ := by
  let e : Fin 2 × Fin 16 ≃ Fin 32 := (Equiv.prodComm (Fin 2) (Fin 16)).trans (finProdFinEquiv (m := 16) (n := 2))
  rw [bigSep_univ_equiv e Φ, bigSep_univ_prod]
  refine bigSep_congr fun c _ => bigSep_congr fun i _ => congrArg Φ (Fin.ext ?_)
  show 2 * i.val + c.val = c.val + 2 * i.val
  omega

omit [FloatOps F] in
/-- A worker's elements of the index array are those of its row rectangle. -/
theorem iRowSet_eq (w : Fin 32) : iRowSet w = (row w).set := by
  show ((View.whole (main_v0_scv : Ref sig .scVector)).slice (row w)).set = _
  rw [View.set_slice]; exact Finset.map_refl
omit [FloatOps F] in
/-- A worker's elements of the output are those of its row rectangle. -/
theorem oRowSet_eq (w : Fin 32) : oRowSet w = (row w).set := by
  show ((View.whole (main_v1_scv : Ref sig .scVector)).slice (row w)).set = _
  rw [View.set_slice]; exact Finset.map_refl

omit [FloatOps F] in
/-- The index array is its rows, one per worker. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun i _ j _ h => by rw [iRowSet_eq, iRowSet_eq]; exact Rect.part_disjoint rowDiv h,
    (Finset.biUnion_congr rfl fun i _ => iRowSet_eq i).trans (Rect.biUnion_part rowDiv)]; try rfl
omit [FloatOps F] in
/-- The output is its rows, one per worker. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet fun i _ j _ h => by rw [oRowSet_eq, oRowSet_eq]; exact Rect.part_disjoint rowDiv h,
    (Finset.biUnion_congr rfl fun i _ => oRowSet_eq i).trans (Rect.biUnion_part rowDiv)]; try rfl
omit [FloatOps F] in
/-- The table is the workers' shares of it. -/
theorem wPts_shares (d : Dev nD) (f : Buf (Elt F) (wLoc d)) :
    (wLoc d ↦{fullShare} f : sProp 𝕄) = bigSep Finset.univ fun w : Fin 32 => wLoc d ↦{wShare w} f :=
  pointsTo_piecesOf Finset.univ f (by decide) fullShare

/-- The call takes the index rows, the table and the output whole, -/
theorem st0_eq (d : Dev nD) : (bigSep Finset.univ fun c : Fin ((K (F := F)).nCore 0) => (P m).st 0 d c)
    = iprop((iLoc d ↦{fullShare} I1 m d) ∗ (wLoc d ↦{fullShare} m (wLoc d)) ∗ oLoc d ↦{fullShare} m (oLoc d)) := by
  rw [iPts_rows, wPts_shares, oPts_rows, ← bigSep_sep', ← bigSep_sep']
  exact bigSep_workers (handed m d)
/-- and brings them back, the output at the table's entries. -/
theorem dn0_eq (d : Dev nD) : (bigSep Finset.univ fun c : Fin ((K (F := F)).nCore 0) => (P m).dn 0 d c)
    = iprop((iLoc d ↦{fullShare} I1 m d) ∗ (wLoc d ↦{fullShare} m (wLoc d)) ∗ oLoc d ↦{fullShare} O1 m d) := by
  rw [iPts_rows, wPts_shares, oPts_rows, ← bigSep_sep', ← bigSep_sep']
  exact bigSep_workers (handedBack m d)

/-! ## The launch element of the ghost state -/

/-- The ghost state at the start: the hand-shake cells of the call and no counter. -/
def u₀ : UU := (initOf (K (F := F)).hsCells (K (F := F)).hsToks, 1)

omit [FloatOps F] in
/-- Nothing, any number of times, is nothing. -/
theorem bigSep_empties {I : Type} (s : Finset I) : (bigSep s fun _ => iprop(emp)) = (iprop(emp) : sProp 𝕄) := bigSep_emp_const s

/-- The ghost state at the start splits into what the launch asks for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_empties]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_empties]
  iempintro

/-! ## @main on the TensorCore -/

abbrev x' : DevRef τ sig := Proc.devRef .tc (main_arg0 : Ref sig .tc)
abbrev w' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two host operations: the indices to rows, the rows to the result. -/
abbrev opIn : HloOp τ sig (Elt F) := StableHlo.reshape main_arg0 main_v0 (rfl : (.i32 : EltTy) = .i32) shapeCasts_S16384x26_S32x13312
abbrev opOut : HloOp τ sig (Elt F) := StableHlo.reshape main_v1 main_v2 (rfl : (.f32 : EltTy) = .f32) shapeCasts_S32x13312_S16384x26

/-- The result: at each place the table's entry at that place's index word. -/
def R (d : Dev nD) : Buf (Elt F) (rLoc d) :=
  (fun j => entry (m (wLoc d) : S1000001.Idx → Elt F .f32) ((m (xLoc d) : S16384x26.Idx → Elt F .i32) j) : S16384x26.Idx → Elt F .f32)

/-- The TensorCore's five arrays. -/
abbrev S5 : Finset (DevRef τ sig) := {x', w', i', o', r'}

omit [FloatOps F] in
/-- Holding the five arrays is holding each of them. -/
theorem held_S5 (d : Dev nD) (W : Valuation τ sig (Elt F)) :
    (held (T d) S5 W : sProp 𝕄)
      = iprop((xLoc d ↦{fullShare} W x') ∗ (wLoc d ↦{fullShare} W w') ∗ (iLoc d ↦{fullShare} W i')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The arrays at launch, after the first host operation, and after the call. -/
def V0 (d : Dev nD) : Valuation τ sig (Elt F) := fun b => m (d, b)
/-- The arrays' contents once the host has laid the indices out as 32 rows. -/
def V1 (d : Dev nD) : Valuation τ sig (Elt F) := (opIn (F := F)).result (V0 m d)
/-- The arrays' contents once the call has ended. -/
def V2 (d : Dev nD) : Valuation τ sig (Elt F) := Function.update (V1 m d) o' (O1 m d)

omit [FloatOps F] in
/-- The buffers a device starts with are the five arrays at their initial contents. -/
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

omit [FloatOps F] in
/-- The first host operation writes the index rows only. -/
theorem V1_ne (d : Dev nD) (b : DevRef τ sig) (h : b ∉ ({i'} : Finset (DevRef τ sig))) : V1 m d b = m (d, b) :=
  (opIn (F := F)).result_of_not_mem _ h
omit [FloatOps F] in
/-- After the host's first reshape the row-shaped index array is `I1`. -/
theorem V1_i (d : Dev nD) : V1 m d i' = I1 m d := StableHlo.reshape_result main_arg0 main_v0 _ _ _ _ _
omit [FloatOps F] in
/-- After the call the row-shaped output is `O1`. -/
theorem V2_o (d : Dev nD) : V2 m d o' = O1 m d := Function.update_self _ _ _
omit [FloatOps F] in
/-- The call changes no array but its output. -/
theorem V2_ne (d : Dev nD) (b : DevRef τ sig) (h : b ≠ o') : V2 m d b = V1 m d b := Function.update_of_ne h _ _

omit [FloatOps F] in
/-- The five arrays as the call finds them. -/
theorem held_V1 (d : Dev nD) :
    (held (T d) S5 ((opIn (F := F)).result (V0 m d)) : sProp 𝕄)
      = iprop((xLoc d ↦{fullShare} m (xLoc d)) ∗ (wLoc d ↦{fullShare} m (wLoc d)) ∗ (iLoc d ↦{fullShare} I1 m d)
          ∗ (oLoc d ↦{fullShare} m (oLoc d)) ∗ rLoc d ↦{fullShare} m (rLoc d)) := by
  show held (SparseCore.T d) S5 (V1 m d) = _
  rw [held_S5, V1_i, V1_ne m d x' (by decide), V1_ne m d w' (by decide), V1_ne m d o' (by decide), V1_ne m d r' (by decide)]

omit [FloatOps F] in
/-- The five arrays as the call leaves them. -/
theorem held_V2 (d : Dev nD) :
    (held (T d) S5 (V2 m d) : sProp 𝕄)
      = iprop((xLoc d ↦{fullShare} m (xLoc d)) ∗ (wLoc d ↦{fullShare} m (wLoc d)) ∗ (iLoc d ↦{fullShare} I1 m d)
          ∗ (oLoc d ↦{fullShare} O1 m d) ∗ rLoc d ↦{fullShare} m (rLoc d)) := by
  rw [held_S5, V2_o, V2_ne m d x' (by decide), V2_ne m d w' (by decide), V2_ne m d i' (by decide), V2_ne m d r' (by decide),
    V1_i, V1_ne m d x' (by decide), V1_ne m d w' (by decide), V1_ne m d r' (by decide)]

omit [FloatOps F] in
/-- The rows in the argument's shape are the result: the two layouts undo each other. -/
theorem result_R (d : Dev nD) : (opOut (F := F)).result (V2 m d) r' = R m d := by
  refine (StableHlo.reshape_result main_v1 main_v2 _ _ _ _ _).trans ?_
  rw [V2_o]
  refine funext fun (j : S16384x26.Idx) => ?_
  show entry (m (wLoc d) : S1000001.Idx → Elt F .f32)
      (shapeCast S16384x26 (shapeCast S32x13312 (m (xLoc d) : S16384x26.Idx → Elt F .i32) shapeCasts_S16384x26_S32x13312) shapeCasts_S32x13312_S16384x26 j) = _
  rw [shapeCast_shapeCast]
  rfl

omit [FloatOps F] in
/-- The arrays at the end: the arguments as launched, the result. -/
theorem held_V3 (d : Dev nD) :
    (held (T d) S5 ((opOut (F := F)).result (V2 m d)) : sProp 𝕄)
      = iprop((xLoc d ↦{fullShare} m (xLoc d)) ∗ (wLoc d ↦{fullShare} m (wLoc d)) ∗ (iLoc d ↦{fullShare} I1 m d)
          ∗ (oLoc d ↦{fullShare} O1 m d) ∗ rLoc d ↦{fullShare} R m d) := by
  have hne (b : DevRef τ sig) (h : b ∉ ({r'} : Finset (DevRef τ sig))) : (opOut (F := F)).result (V2 m d) b = V2 m d b :=
    (opOut (F := F)).result_of_not_mem _ h
  rw [held_S5, result_R, hne x' (by decide), hne w' (by decide), hne i' (by decide), hne o' (by decide),
    V2_o, V2_ne m d x' (by decide), V2_ne m d w' (by decide), V2_ne m d i' (by decide),
    V1_i, V1_ne m d x' (by decide), V1_ne m d w' (by decide)]

/-- The first reshape touches only the five arrays. -/
theorem hIn : (opIn (F := F)).bufs ⊆ S5 := show ({x', i'} : Finset (DevRef τ sig)) ⊆ S5 by decide
/-- The last reshape touches only the five arrays. -/
theorem hOut : (opOut (F := F)).bufs ⊆ S5 := show ({o', r'} : Finset (DevRef τ sig)) ⊆ S5 by decide

/-- What @main leaves the claims: both arguments as launched, the result. -/
abbrev FIN (d : Dev nD) : sProp 𝕄 :=
  iprop((xLoc d ↦{fullShare} m (xLoc d)) ∗ (wLoc d ↦{fullShare} m (wLoc d)) ∗ rLoc d ↦{fullShare} R m d)

/-- @main on device `d`'s TensorCore: the first host operation, the call, the second host operation. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Hw, Hi, Ho, Hr⟩
  iapply ((K (F := F)).wp_run (D (F := F)) 𝒱 (EH := EH) (P := P m) κ d 0) $$ [Hst Hi Hw Ho Hb Hx Hr Hts]
  isplitr; · iexact Hctx
  isplitl [Hst]; · iexact Hst
  isplitl [Hi Hw Ho]
  · rw [st0_eq]
    isplitl [Hi]; · iexact Hi
    isplitl [Hw]; · iexact Hw
    iexact Ho
  iintro ⟨Hst, Hdn⟩
  ihave Hdn' := (Entails.of_eq (dn0_eq m d)) $$ Hdn
  icases Hdn' with ⟨Hi, Hw, Ho⟩
  iapply (wp_hlo_within 𝒱 (SparseCore.T d) none Set.univ (op := opOut) (S := S5) hOut (V := V2 m d)) $$ [Hb Hx Hw Hi Ho Hr]
  · isplitl [Hb]; · iexact Hb
    rw [held_V2]
    isplitl [Hx]; · iexact Hx
    isplitl [Hw]; · iexact Hw
    isplitl [Hi]; · iexact Hi
    isplitl [Ho]; · iexact Ho
    iexact Hr
  iintro ⟨Hb, Hheld⟩
  ihave Hh := (Entails.of_eq (held_V3 (F := F) m d)) $$ Hheld
  icases Hh with ⟨Hx, Hw, -, -, Hr⟩
  rw [wp_ret]; imodintro; imodintro
  isplitl [Hst]; · iexact Hst
  isplitr [Hb Hts]
  · isplitl [Hx]; · iexact Hx
    isplitl [Hw]; · iexact Hw
    iexact Hr
  isplitl [Hb] <;> iassumption

/-- What the claims read of device `d`'s final memory. -/
def fq (d : Dev nD) (s' : Phys nD τ sig (Elt F)) : Prop :=
  s'.mem.mem (rLoc d) = R m d ∧ s'.mem.mem (xLoc d) = m (xLoc d) ∧ s'.mem.mem (wLoc d) = m (wLoc d)

set_option maxRecDepth 16384 in
/-- What a device holds at the end fixes the final memory it speaks of. -/
theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (SI_pointsTo_agree (st := s') (ℓ := rLoc d) (I := Finset.univ) (q := fullShare) (f := R m d)) $$ [HSI Hr]
  · isplitl [HSI] <;> iassumption
  icases H with %hr
  ipureintro
  exact ⟨funext fun i => hr i (Finset.mem_univ i), funext fun i => hx i (Finset.mem_univ i), funext fun i => hw i (Finset.mem_univ i)⟩

/-! ## The program's run -/

/-- The end of a run: on each device the result and both arguments as said, every semaphore's counter at zero. -/
def QC : PUnit × MemSt nD τ sig (Elt F) → Prop := fun r =>
  (∀ c : Dev nD, r.2.mem (rLoc c) = R m c ∧ r.2.mem (xLoc c) = m (xLoc c) ∧ r.2.mem (wLoc c) = m (wLoc c)) ∧ r.2.sem = fun _ => 0

/-- Every weakly fair execution of the program ends there. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) callFacts v₀
    (fun q hq => match q with | 0 => nomatch hq)
    (fun q _ => match q with | 0 => tileObl m callFacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.lean ====
/-
  The certificate's claim. The kernel's run (Proof/Kernel/Launch.lean, `run_main`) and the idealized kernel's are read at the
  claims' postconditions; a reference's run is the generated `Value.run`, whose result is the table's entries at the index
  words by `refTerm_eq` (Proof/RefValue.lean). Both sides of each value claim end at the array `R`: the table's entry at
  each place's index word.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_index_range
public import proofs.«01_k».proof.Proof.RefValue
public import proofs.«01_k».proof.Proof.Kernel.Launch
public import proofs.«01_k».proof.Proof.KernelIdeal.Launch
public import Idealize.ShloMosaic.Adequacy
public import Idealize.ShloMosaic.Init

@[expose] public section

noncomputable section

namespace Cert.Proof

open Idealize.ShloMosaic Idealize.SL.Sem

/-- The kernel's frame: its run ends with both arguments unchanged and every counter at zero. -/
theorem frame_p : Cert.quiescent_Kernel := fun m g h =>
  (θ_run Cert.Kernel.defs _ _).mono (fun _ hr => ⟨fun c => (hr.1 c).2, hr.2⟩)
    (Kernel.run_main (F := Bits) m g fun d => inRange_of_pre _ _ (h d))

/-- The idealized kernel's frame, likewise. -/
theorem frame_pi : Cert.quiescent_KernelIdeal := fun m g h =>
  (θ_run Cert.KernelIdeal.defs _ _).mono (fun _ hr => ⟨fun c => (hr.1 c).2, hr.2⟩)
    (KernelIdeal.run_main (F := Ideal) m g fun d => inRange_of_pre _ _ (h d))

/-- The reference's frame: no operation writes an argument, and it declares no semaphore. -/
theorem frame_r : Cert.quiescent_Reference := fun m g _ =>
  (θ_run Cert.Reference.defs _ _).mono
    (fun r hr => ⟨fun c => (hr c).2, sem_eq_zero_of_no_sems (by decide) r.2⟩)
    (Cert.Reference.Value.run (F := Bits) m g)

/-- The reference's frame under the precondition: the frame without it, weakened. -/
theorem frame_r_pre : Cert.quiescent_Reference_pre_index_range := fun m g _ => frame_r m g trivial

/-- The idealized reference's frame: no operation writes an argument, and it declares no semaphore. -/
theorem frame_ri : Cert.quiescent_ReferenceIdeal := fun m g _ =>
  (θ_run Cert.ReferenceIdeal.defs _ _).mono
    (fun r hr => ⟨fun c => (hr c).2, sem_eq_zero_of_no_sems (by decide) r.2⟩)
    (Cert.ReferenceIdeal.Value.run (F := Ideal) m g)

/-- The idealized reference's frame under the precondition: the frame without it, weakened. -/
theorem frame_ri_pre : Cert.quiescent_ReferenceIdeal_pre_index_range := fun m g _ => frame_ri m g trivial

/-- The kernel changes no operation when idealized, so nothing is left to preserve. -/
theorem preserves : Cert.preserves_Kernel_KernelIdeal := trivial

/-- Over the extended reals the kernel and the reference both end with `R` of the kernel's arguments. -/
theorem algebraic : Cert.algebraic_KernelIdeal_ReferenceIdeal := by
  intro m g m' g' h hagree
  have hpre : KernelIdeal.PreOK (F := Ideal) m := fun d => inRange_of_pre _ _ (h d)
  refine ⟨fun c => KernelIdeal.R m c,
    (θ_run Cert.KernelIdeal.defs _ _).mono (fun _ hr c => hr.1 c) (KernelIdeal.run_main (F := Ideal) m g hpre), ?_⟩
  refine (θ_run Cert.ReferenceIdeal.defs _ _).mono (fun _ hr c => ⟨(hr c).1.trans ?_, (hr c).2⟩)
    (Cert.ReferenceIdeal.Value.run (F := Ideal) m' g')
  rw [(hagree c).1, (hagree c).2]
  exact refTerm_eq _ rfl rfl rfl rfl _ _ (hpre c) _ _ _ _ _ _ _ _ _ _

/-- On the machine's own floats the kernel and the reference both end with `R` of the kernel's arguments. -/
theorem bitexact : Cert.bitexact_Kernel_Reference := by
  intro m g m' g' h hagree
  have hpre : Kernel.PreOK (F := Bits) m := fun d => inRange_of_pre _ _ (h d)
  refine ⟨fun c => Kernel.R m c,
    (θ_run Cert.Kernel.defs _ _).mono (fun _ hr c => hr.1 c) (Kernel.run_main (F := Bits) m g hpre), ?_⟩
  refine (θ_run Cert.Reference.defs _ _).mono (fun _ hr c => ⟨(hr c).1.trans ?_, (hr c).2⟩)
    (Cert.Reference.Value.run (F := Bits) m' g')
  rw [(hagree c).1, (hagree c).2]
  exact refTerm_eq _ rfl rfl rfl rfl _ _ (hpre c) _ _ _ _ _ _ _ _ _ _

/-- The certificate's claim: the frames, the preservation and both value claims. -/
theorem claim : Cert.Claim :=
  ⟨Cert.Kernel.Gen.facts, Cert.KernelIdeal.Gen.facts, Cert.Reference.Gen.facts, Cert.ReferenceIdeal.Gen.facts,
    Cert.Pre_index_range.Gen.facts, frame_p, frame_pi, frame_r, frame_r_pre, frame_ri, frame_ri_pre, preserves, algebraic,
    bitexact⟩

end Cert.Proof

end
